-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v3_0)) (v1 : (c : Dev Cert.Kernel.nD) → Buf (Elt Bits) ((c.tc : Thread Cert.Kernel.nD Cert.Kernel.τ).loc Cert.Kernel.main_v3_1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3_0) = v0 c
          ∧ r.2.mem ((c.tc : Thread Cert.Kernel.nD Cert.Kernel.τ).loc Cert.Kernel.main_v3_1) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_arg0) = v0 c
          ∧ r.2.mem ((c.tc : Thread Cert.Reference.nD Cert.Reference.τ).loc Cert.Reference.main_v9) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S32768x1024 : Shape := ⟨2, ![32768, 1024]⟩
abbrev S16x2 : Shape := ⟨2, ![16, 2]⟩
abbrev S2048x1024 : Shape := ⟨2, ![2048, 1024]⟩
abbrev S_ : Shape := ⟨0, ![]⟩
abbrev S1x1 : Shape := ⟨2, ![1, 1]⟩

abbrev nBuf : Table → Nat
  | .hbm => 8
  | .local .tc .vmem => 10
  | .local .scScalar .smem => 1
  | _ => 0

abbrev bufTy : (tb : Table) → Fin (nBuf tb) → BufTy
  | .hbm, ⟨0, _⟩ => ⟨S32768x1024, .f32⟩
  | .hbm, ⟨1, _⟩ => ⟨S16x2, .i32⟩
  | .hbm, ⟨2, _⟩ => ⟨S32768x1024, .f32⟩
  | .hbm, ⟨3, _⟩ => ⟨S32768x1024, .f32⟩
  | .hbm, ⟨4, _⟩ => ⟨S16x2, .i32⟩
  | .hbm, ⟨5, _⟩ => ⟨S16x2, .i32⟩
  | .hbm, ⟨6, _⟩ => ⟨S32768x1024, .f32⟩
  | .hbm, ⟨7, _⟩ => ⟨S16x2, .i32⟩
  | .local .tc .vmem, ⟨0, _⟩ => ⟨S2048x1024, .f32⟩
  | .local .tc .vmem, ⟨1, _⟩ => ⟨S2048x1024, .f32⟩
  | .local .tc .vmem, ⟨2, _⟩ => ⟨S2048x1024, .f32⟩
  | .local .tc .vmem, ⟨3, _⟩ => ⟨S2048x1024, .f32⟩
  | .local .tc .vmem, ⟨4, _⟩ => ⟨S2048x1024, .f32⟩
  | .local .tc .vmem, ⟨5, _⟩ => ⟨S2048x1024, .f32⟩
  | .local .tc .vmem, ⟨6, _⟩ => ⟨S16x2, .i32⟩
  | .local .tc .vmem, ⟨7, _⟩ => ⟨S2048x1024, .f32⟩
  | .local .tc .vmem, ⟨8, _⟩ => ⟨S2048x1024, .f32⟩
  | .local .tc .vmem, ⟨9, _⟩ => ⟨S16x2, .i32⟩
  | .local .scScalar .smem, ⟨0, _⟩ => ⟨S16x2, .i32⟩
  | _, _ => ⟨S32768x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v1_1_scs : Ref sig .scScalar := ⟨.hbm, 4, rfl⟩
abbrev main_v2_scs : Ref sig .scScalar := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg2_1 : Ref sig .tc := ⟨.vmem, 8, rfl⟩
abbrev cc2_stg3_0 : Ref sig .tc := ⟨.vmem, 9, rfl⟩
abbrev cc1_scratch0 : Ref sig .scScalar := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 6
abbrev cc2_sem0_1 : DmaSem sig := 7
abbrev cc2_sem1_0 : DmaSem sig := 8
abbrev cc2_sem2_0 : DmaSem sig := 9
abbrev cc2_sem2_1 : DmaSem sig := 10
abbrev cc2_sem3_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

abbrev grid2 : Pipeline.Grid := ⟨1, ![13], ![false]⟩

def k2_cond1 (i : grid2.Coords) : BitVec 1 :=
  let arg0 : BitVec 32 := BitVec.ofNat 32 (i 0).val
  let c12_i32 : BitVec 32 := 12#32
  let v2 : BitVec 1 := Scalar.cmpi .eq arg0 c12_i32
  let v3 : BitVec 32 := Scalar.extui v2
  let c0_i32 : BitVec 32 := 0#32
  let v4 : BitVec 1 := Scalar.cmpi .ne v3 c0_i32
  v4

def cc2_transform_1 (i : grid2.Coords) : Fin 2 → Nat :=
  let arg0 : BitVec 32 := BitVec.ofNat 32 (i 0).val
  let c3_i32 : BitVec 32 := 3#32
  let v0 : BitVec 32 := Scalar.addi arg0 c3_i32
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c3_i32 : BitVec 32 := 3#32
  let v0 : BitVec 32 := Scalar.addi arg0 c3_i32
  let c0_i32 : BitVec 32 := 0#32
  let c0_i32_0 : BitVec 32 := 0#32
  ![v0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x2 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x2 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S32768x1024 : Shape := ⟨2, ![32768, 1024]⟩
abbrev S16x2 : Shape := ⟨2, ![16, 2]⟩
abbrev S16x1 : Shape := ⟨2, ![16, 1]⟩
abbrev S16 : Shape := ⟨1, ![16]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x2, .i32⟩
  | .hbm, ⟨2, _⟩ => ⟨S16x1, .i32⟩
  | .hbm, ⟨3, _⟩ => ⟨S16, .i32⟩
  | .hbm, ⟨4, _⟩ => ⟨S16x1, .i32⟩
  | .hbm, ⟨5, _⟩ => ⟨S16, .i32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S16, .i32⟩
  | .hbm, ⟨10, _⟩ => ⟨S16x1, .i32⟩
  | .hbm, ⟨11, _⟩ => ⟨S16x1, .i32⟩
  | .hbm, ⟨12, _⟩ => ⟨S16x2, .i32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proof.Setup.lean ====
/-
  The set-up of the run: the program as the launch theorem sees it, the resource algebra of the proof, and the names of
  the arrays.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen
open Idealize.ShloMosaic
open Idealize.ShloMosaic.SparseCore (S)
open Idealize.ShloMosaic.SparseCore.Cfg (HIx)
open Idealize.SL Idealize.SL.RA Idealize.SL.BI Idealize.SL.Sem
open Idealize.ShloMosaic.Rounds

variable {F : FTy → Type}

/-! ## The program -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake's semaphores are four different ones, and none belongs to a kernel's own scratch. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes, the two block-by-block copies, the transfers of the SparseCore -/

abbrev UH : Type := URounds (GSem nD τ sig) ℕ
abbrev UP : Type := UR sig nD τ
abbrev UU : Type := UH × (UP × Counters)

/-- The handshakes' component, -/
abbrev EH : Emb UH (MT nD τ sig (HIx 1) (Elt F) ℕ UU ℕ) := embL

/-- and the one of the block-by-block copies. -/
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

/-! ## The arrays -/

/-- The table's copy, the array for the result and the scalar memory, as the SparseCore names them. -/
abbrev srcW : Memref sig .scScalar .hbm S16x2 .i32 := Memref.whole main_v1_1_scs
abbrev dstW : Memref sig .scScalar .hbm S16x2 .i32 := Memref.whole main_v2_scs
abbrev bufW : Memref sig .scScalar .smem S16x2 .i32 := Memref.whole cc1_scratch0

abbrev valuesLoc (d : Dev nD) : Loc nD τ sig := (SparseCore.T d).loc main_arg0
abbrev indicesLoc (d : Dev nD) : Loc nD τ sig := (SparseCore.T d).loc main_arg1
abbrev headLoc (d : Dev nD) : Loc nD τ sig := (SparseCore.T d).loc main_v0
abbrev head'Loc (d : Dev nD) : Loc nD τ sig := (SparseCore.T d).loc main_v1_0
abbrev indices'Loc (d : Dev nD) : Loc nD τ sig := (SparseCore.T d).loc main_v1_1
abbrev truncLoc (d : Dev nD) : Loc nD τ sig := (SparseCore.T d).loc main_v2
abbrev outValuesLoc (d : Dev nD) : Loc nD τ sig := (SparseCore.T d).loc main_v3_0
abbrev outIndicesLoc (d : Dev nD) : Loc nD τ sig := (SparseCore.T d).loc main_v3_1

end Cert.Proof

end
-- ==== Proof.Blocks.lean ====
/-
  One grid point of the TensorCore's two copies: what the body of each does to the staging buffers it is called with.
-/
module

public import proofs.«01_k».proof.Proof.Setup
public import Idealize.ShloMosaic.Lib.Pipeline.Frame
public import Idealize.ShloMosaic.Lib.Pipeline.Value
public import Idealize.ShloMosaic.Lib.VecWindow

@[expose] public section

noncomputable section

namespace Cert.Proof

open Cert.KernelIdeal Cert.KernelIdeal.Gen
open Idealize.ShloMosaic Idealize.ShloMosaic.TcCoe
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Tactic

variable {F : FTy → Type} [FloatOps F]

local notation "𝕄" => MT nD τ sig (HIx 1) (Elt F) ℕ UU ℕ

/-- A whole staging buffer that reads `X` is its memory held at the one contents that reads so. -/
theorem owns_staged (c : Dev nD) {sp : Space} {s : Shape} {e : EltTy} (M : Memref sig .tc sp s e) (h : M.IsWhole) (X : s.Idx → Elt F e) :
    (owns (c : Thread nD τ) M fullShare X : sProp 𝕄) = (M.view.loc (c : Thread nD τ) ↦{fullShare} h.unread X : sProp 𝕄) := by
  have open' : (owns (c : Thread nD τ) M fullShare X : sProp 𝕄) ⊢ (M.view.loc (c : Thread nD τ) ↦{fullShare} h.unread X : sProp 𝕄) := by
    unfold owns
    iintro ⟨%f, %hf, H⟩
    obtain rfl := h.eq_unread hf
    rw [h.set_eq_univ]
    iexact H
  have close : (M.view.loc (c : Thread nD τ) ↦{fullShare} h.unread X : sProp 𝕄) ⊢ (owns (c : Thread nD τ) M fullShare X : sProp 𝕄) := by
    unfold owns
    iintro H
    iexists (h.unread X)
    isplitr
    · ipureintro; exact h.read_unread X
    · rw [h.set_eq_univ]; iexact H
  exact BI.equiv_iff.mp ⟨open', close⟩

/-- A whole staging buffer stored whole is one that reads the vector stored. -/
theorem owns_stored (c : Dev nD) {sp : Space} {s : Shape} {e : EltTy} (M : Memref sig .tc sp s e) (h : M.IsWhole)
    (f : M.view.ty.Contents (Elt F)) (X : s.Idx → Elt F e) (hf : M.view.read (Elt F) f = X) :
    (M.view.loc (c : Thread nD τ) ↦{fullShare} f : sProp 𝕄) ⊢ owns (c : Thread nD τ) M fullShare X := by
  rw [owns_staged c M h, ← h.eq_unread hf]

/-- The head's body at one block: it copies the block it read into the block to be written. -/
theorem head_body (c : Dev nD) (i : grid0.Coords) (M : Memref sig .tc .vmem S2048x1024 .f32) (h : M.IsWhole)
    (M' : Memref sig .tc .vmem S2048x1024 .f32) (h' : M'.IsWhole) (X Y : S2048x1024.Idx → Elt F .f32) (E : Set ℕ) (Q : PUnit → sProp 𝕄) :
    iprop((owns (c : Thread nD τ) M fullShare X : sProp 𝕄) ∗ owns (c : Thread nD τ) M' fullShare Y
        ∗ (iprop(owns (c : Thread nD τ) M fullShare X ∗ owns (c : Thread nD τ) M' fullShare X) -∗ Q ⟨⟩))
      ⊢ wp frame (wpE (defs₀ (F := F)) 𝒱₀ (c : Thread nD τ) none) E (cc0__copy_head_body i M h M' h') Q := by
  rw [owns_staged c M h, owns_staged c M' h' Y]
  iintro ⟨H, H', Hk⟩
  sl_exec
  sl_step
  iapply Hk
  isplitl [H]; · iexact H
  iapply (owns_stored c M' h' _ X ?_) $$ H'
  rw [View.read_writes_full, View.readAt_full, h.read_unread]

/-- The tail's body at one block: it copies the block of values, and at the last point the array of indices too. -/
theorem tail_body (c : Dev nD) (i : grid2.Coords) (A : Memref sig .tc .hbm S32768x1024 .f32) (hA : A.IsWhole)
    (M : Memref sig .tc .vmem S2048x1024 .f32) (h : M.IsWhole) (N : Memref sig .tc .vmem S16x2 .i32) (g : N.IsWhole)
    (M' : Memref sig .tc .vmem S2048x1024 .f32) (h' : M'.IsWhole) (N' : Memref sig .tc .vmem S16x2 .i32) (g' : N'.IsWhole)
    (X Y : S2048x1024.Idx → Elt F .f32) (U V : S16x2.Idx → Elt F .i32) (E : Set ℕ) (Q : PUnit → sProp 𝕄) :
    iprop((owns (c : Thread nD τ) M fullShare X : sProp 𝕄) ∗ owns (c : Thread nD τ) N fullShare U
        ∗ owns (c : Thread nD τ) M' fullShare Y ∗ owns (c : Thread nD τ) N' fullShare V
        ∗ (iprop(owns (c : Thread nD τ) M fullShare X ∗ owns (c : Thread nD τ) N fullShare U
            ∗ owns (c : Thread nD τ) M' fullShare X
            ∗ owns (c : Thread nD τ) N' fullShare (if k2_cond1 i = 1#1 then U else V)) -∗ Q ⟨⟩))
      ⊢ wp frame (wpE (defs₀ (F := F)) 𝒱₀ (c : Thread nD τ) none) E (cc2__copy_tail_body i A hA M h N g M' h' N' g') Q := by
  rw [owns_staged c M h, owns_staged c M' h' Y, owns_staged c N g, owns_staged c N' g' V]
  by_cases hi : k2_cond1 i = 1#1
  · rw [if_pos hi]
    iintro ⟨H, G, H', G', Hk⟩
    sl_exec
    sl_step
    iapply Hk
    isplitl [H]; · iexact H
    isplitl [G]; · iexact G
    isplitl [H']
    · iapply (owns_stored c M' h' _ X ?_) $$ H'
      rw [View.read_writes_full, View.readAt_full, h.read_unread]
    · iapply (owns_stored c N' g' _ U ?_) $$ G'
      rw [View.read_writes_full]
      refine (shapeCast_self _ _).trans ?_
      rw [View.readAt_full, g.read_unread]
  · rw [if_neg hi, owns_staged c N' g' V]
    iintro ⟨H, G, H', G', Hk⟩
    sl_exec
    sl_step
    iapply Hk
    isplitl [H]; · iexact H
    isplitl [G]; · iexact G
    isplitl [H']
    · iapply (owns_stored c M' h' _ X ?_) $$ H'
      rw [View.read_writes_full, View.readAt_full, h.read_unread]
    · iexact G'

end Cert.Proof

end
-- ==== Proof.Region.lean ====
/-
  A copy the TensorCore makes block by block, as a step of the program: from all the arrays at given contents to the
  same arrays with those the copy writes replaced. Written once for both copies.
-/
module

public import proofs.«01_k».proof.Proof.Setup
public import Idealize.ShloMosaic.Lib.Pipeline.Frame
public import Idealize.ShloMosaic.Lib.Pipeline.RegionsLoop

@[expose] public section

noncomputable section

namespace Cert.Proof

open Cert.KernelIdeal Cert.KernelIdeal.Gen
open Idealize.ShloMosaic Idealize.ShloMosaic.TcCoe
open Idealize.ShloMosaic.SparseCore.Cfg (HIx)
open Idealize.ShloMosaic.Pipeline (Dat)
open Idealize.SL Idealize.SL.RA Idealize.SL.BI Idealize.SL.Sem
open scoped Idealize.SL.BI
open Idealize.SL.BI.BIBase Idealize.SL.BI.Laws Idealize.SL.ProofMode

variable {F : FTy → Type}

local notation "𝕄" => MT nD τ sig (HIx 1) (Elt F) ℕ UU ℕ

/-- What the arrays of each device hold. -/
abbrev Arrays (F : FTy → Type) : Type := (c : Dev nD) → (b : Ref sig .tc) → Buf (Elt F) ((c : Thread nD τ).loc b)

/-- No copy reads a table beforehand. -/
abbrev adm : (p : Fin 2) → (pcfgs (F := F) p).Adm := fun p => (cfgs p).toPCfg_adm

/-! ## What stands in the staging buffers after each point -/

/-- The head: the block of values just read, in the buffer read into and in the buffer to be written. -/
def headAfter (V : Arrays F) (c : Dev nD) : (w : Fin cfg0.W) → Fin cfg0.N → (cfg0.win w).block.Idx → Elt F (cfg0.win w).elt
  | ⟨0, _⟩ => fun t => ((cfg0.win 0).blk t).view.read (Elt F) (V c main_arg0)
  | ⟨1, _⟩ => fun t => ((cfg0.win 0).blk t).view.read (Elt F) (V c main_arg0)
  | ⟨_ + 2, h⟩ => absurd h (Nat.not_lt.2 (Nat.le_add_left _ _))

/-- The tail: the block of values in two buffers, the array of indices in the two others. -/
def tailAfter (V : Arrays F) (c : Dev nD) : (w : Fin cfg2.W) → Fin cfg2.N → (cfg2.win w).block.Idx → Elt F (cfg2.win w).elt
  | ⟨0, _⟩ => fun t => ((cfg2.win 0).blk t).view.read (Elt F) (V c main_arg0)
  | ⟨1, _⟩ => fun t => ((cfg2.win 1).blk t).view.read (Elt F) (V c main_v2)
  | ⟨2, _⟩ => fun t => ((cfg2.win 0).blk t).view.read (Elt F) (V c main_arg0)
  | ⟨3, _⟩ => fun t => ((cfg2.win 1).blk t).view.read (Elt F) (V c main_v2)
  | ⟨_ + 4, h⟩ => absurd h (Nat.not_lt.2 (Nat.le_add_left _ _))

/-- The two together. -/
def stagedAfter (V : Arrays F) (c : Dev nD) : (p : Fin 2) → (w : Fin (cfgs p).W) → Fin (cfgs p).N → ((cfgs p).win w).block.Idx → Elt F ((cfgs p).win w).elt
  | ⟨0, _⟩ => headAfter V c
  | ⟨1, _⟩ => tailAfter V c
  | ⟨_ + 2, h⟩ => absurd h (Nat.not_lt.2 (Nat.le_add_left _ _))

/-! ## The waits -/

/-- The waits the TensorCore may have recorded by its call number `n` of the SparseCore. -/
def waitsBelow (n : ℕ) (c : Dev nD) : Set (SemLoc sig × HIx 1) :=
  {p | (K (F := F)).lev (SparseCore.T c, p.1) p.2 ≤ 8 * n}

/-- What the TensorCore owes and has waited for before its call number `n` of the SparseCore. -/
abbrev owing (n : ℕ) (c : Dev nD) : sProp 𝕄 :=
  iprop(∃ W, ⌜(K (F := F)).WBelow (SparseCore.T c) W (8 * n)⌝ ∗ owes (SparseCore.T c) ((K (F := F)).Otc c n) W)

/-- The TensorCore owes the SparseCore nothing that a copy's own semaphores would have to wait for. -/
theorem Otc_at_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this
  omega

/-! ## The copy's data -/

/-- The data of both copies when the arrays hold `V` and the SparseCore has been called `n` times. -/
def copies (n : ℕ) (V : Arrays F) (p : Fin 2) (c : Dev nD) :
    Dat τ (Elt F) (HIx 1) ℕ UU ℕ (Pipeline.pin (pcfgs (F := F)) adm p) c where
  A w := V c (Pipeline.arrRef (cfgs p).spec w)
  after := stagedAfter V c p
  Φ _ := Pipeline.scopedRest (cfgs p).spec c
  q _ := fullShare
  owed _ := (K (F := F)).Otc c n
  recorded _ := waitsBelow (F := F) n c

/-- What is known of the waits is kept by a copy's own waits. -/
theorem owing_of_copies (n : ℕ) (V : Arrays F) (p : Fin 2) (c : Dev nD) (t) :
    (copies n V p c).owesAt none t ⊢ (owing (F := F) n c : sProp 𝕄) := by
  unfold Pipeline.Dat.owesAt Pipeline.owesWithin owing
  iintro ⟨%W, %hW, HO⟩
  iexists W
  isplitr
  · ipureintro
    intro p' hp'
    rcases hW hp' with h | ⟨w, s, h⟩
    · exact h
    · rw [h]; exact Nat.zero_le _
  · iexact HO

/-- And what is known of them before the copy is all the copy needs. -/
theorem copies_of_owing (n : ℕ) (V : Arrays F) (p : Fin 2) (c : Dev nD) (t) :
    (owing (F := F) n c : sProp 𝕄) ⊢ (copies n V p c).owesAt none t := by
  unfold Pipeline.Dat.owesAt Pipeline.owesWithin owing
  iintro ⟨%W, %hW, HO⟩
  iexists W
  isplitr
  · ipureintro
    exact fun p' hp' => Or.inl (hW p' hp')
  · iexact HO

/-- The layout of each copy's staging buffers. -/
theorem launches : (p : Fin 2) → Pipeline.LaunchFacts (nD := nD) (τ := τ) cfgs p
  | ⟨0, _⟩ => launch0
  | ⟨1, _⟩ => launch2
  | ⟨_ + 2, h⟩ => absurd h (Nat.not_lt.2 (Nat.le_add_left _ _))

variable [FloatOps F]

set_option backward.isDefEq.respectTransparency.types false in
/-- A copy as a step: from the arrays at `V` to the arrays at any `V'` that has what the copy computes in the copy's
    own arrays and is `V` elsewhere. -/
def copyStep (n : ℕ) (V V' : Arrays F) (p : Fin 2)
    (hbody : ∀ c, Pipeline.BodyObligation (copies n V p c) (defs₀ (F := F)) 𝒱₀ none Set.univ)
    (hV : ∀ c w, (copies n V p c).arrAt w (cfgs p).N = V' c (Pipeline.arrRef (cfgs p).spec w))
    (hV' : ∀ c b, b ∉ Finset.univ.image (Pipeline.arrRef (cfgs p).spec) → V' c b = V c b) :
    Pipeline.RegionSeg (pcfgs (F := F)) adm (copies n V) none (defs₀ (F := F)) 𝒱₀ (K (F := F)).L (K (F := F)).lev p where
  win := (launches p).win.to₀
  block_pos := (launches p).block_pos
  stage_whole := (launches p).stage_whole
  K := PEmpty
  osem k := k.elim
  ho := Pipeline.OwnSemFacts.none _
  hbody c := (hbody c).loose
  hwaits c := Pipeline.cellsWaits_intro _ _ _ p c fun w s t => (K (F := F)).mayWait_none _ (Otc_at_none c n)
  pre c := iprop(unscopedBufs c (V c) ∗ owing (F := F) n c)
  post c := iprop(unscopedBufs c (V' c) ∗ owing (F := F) n c)
  X _ := BI.emp
  Y _ := BI.emp
  Z c := Pipeline.unscopedRest (Ix := HIx 1) (Name := ℕ) (U := UU) (Lvl := ℕ) (cfgs p).spec c (V c)
  hentry c := by
    have split := Pipeline.arrays_of_unscopedBufs (p := p) (pcfgs (F := F)) adm (copies n V) (launches p).win (launches p).arr_whole c
      ((copies n V p c).share_full fun _ => rfl) (V c) fun _ => rfl
    rw [Pipeline.ownSems0_none]
    iintro ⟨⟨Hb, HO⟩, -, -⟩
    ihave H := split $$ Hb
    icases H with ⟨Ha, Hr⟩
    imodintro
    isplitl [Ha]; · iexact Ha
    isplitr
    · unfold Pipeline.prefHeld
      rw [show (Finset.univ : Finset (Fin 0)) = ∅ from rfl, BI.bigSep_empty]
      iempintro
    isplitl [HO]; · iapply (copies_of_owing n V p c 0) $$ HO
    isplitr; · iempintro
    iexact Hr
  hin c := by
    rw [show (copies n V p c).Φ 0 = Pipeline.scopedRest (cfgs p).spec c from rfl]
    iintro ⟨-, -, Hr⟩
    iexact Hr
  hout c := by
    rw [Pipeline.ownSems0_none, show (copies n V p c).Φ (Fin.last _) = Pipeline.scopedRest (cfgs p).spec c from rfl]
    iintro Hr
    isplitr; · iempintro
    isplitr; · iempintro
    iexact Hr
  hexit c := by
    have join := Pipeline.unscopedBufs_of_arrays (p := p) (pcfgs (F := F)) adm (Ix := HIx 1) (Name := ℕ) (U := UU) (Lvl := ℕ)
      (launches p).win (launches p).arr_whole c (copies n V) ((copies n V p c).share_full fun _ => rfl) (V c) (V' c)
      ((copies n V p c).arrAt · (cfgs p).N) (hV c) (hV' c)
    iintro ⟨Ha, HO, -, Hr⟩
    imodintro
    isplitl [Ha Hr]
    · iapply join
      isplitl [Ha]
      · iexact Ha
      · iexact Hr
    · iapply (owing_of_copies n V p c _) $$ HO

end Cert.Proof

end
-- ==== Proof.Copies.lean ====
/-
  The two copies of the TensorCore: their bodies do at every point what the copies' data says, and what the arrays hold
  when a copy has run.
-/
module

public import proofs.«01_k».proof.Proof.Blocks
public import proofs.«01_k».proof.Proof.Region
public import Idealize.ShloMosaic.Lib.Pipeline.FrameBody
public import Idealize.ShloMosaic.Lib.Pipeline.ValueKit

@[expose] public section

noncomputable section

namespace Cert.Proof

open Cert.KernelIdeal Cert.KernelIdeal.Gen
open Idealize.ShloMosaic Idealize.ShloMosaic.TcCoe
open Idealize.ShloMosaic.SparseCore.Cfg (HIx)
open Idealize.ShloMosaic.Pipeline (Dat)
open Idealize.SL Idealize.SL.RA Idealize.SL.BI Idealize.SL.Sem
open scoped Idealize.SL.BI
open Idealize.SL.BI.BIBase Idealize.SL.BI.Laws Idealize.SL.ProofMode

variable {F : FTy → Type} [FloatOps F]

local notation "𝕄" => MT nD τ sig (HIx 1) (Elt F) ℕ UU ℕ

variable (n : ℕ) (V : Arrays F) (c : Dev nD)

/-! ## The head -/

/-- The head's body finds the block of values in the buffer it reads. -/
theorem head_before (t : Fin cfg0.N) (d) : (copies n V 0 c).before 0 t d = ((cfg0.win 0).blk t).view.read (Elt F) (V c main_arg0) :=
  (copies n V 0 c).before_fetched 0 t (fetch0_0 t) d

/-- The head's body at every point. -/
theorem head_obligation : Pipeline.BodyObligation (copies n V 0 c) (defs₀ (F := F)) 𝒱₀ none Set.univ := fun t => by
  rw [bigSep_W0, bigSep_W0]
  iintro ⟨HΦ, HO, ⟨%d, H⟩, ⟨%d', H'⟩⟩
  rw [head_before n V c t d]
  iapply (head_body c (grid0.coords t) (st0_0 t) (stage_whole0 0 _) (st0_1 t) (stage_whole0 1 _) _ _ Set.univ _)
  isplitl [H]; · iexact H
  isplitl [H']; · iexact H'
  dsimp only [Pipeline.pin, copies, stagedAfter, headAfter]
  iintro ⟨H, H'⟩
  isplitl [HΦ]; · iexact HΦ
  isplitl [HO]; · iexact HO
  isplitl [H]
  · iexact H
  · iexact H'

/-- The blocks the head writes are the first three. -/
theorem head_blocks : win0_1.CoversWhere fun β => β (0 : Fin 2) < 3 := by decide +kernel

/-- The head leaves the values in the first three blocks of rows of its array, and the rest as it was. -/
theorem head_array : (copies n V 0 c).arrAt 1 cfg0.N
    = fun i : S32768x1024.Idx => if (i 0 : ℕ) / 2048 < 3 then V c main_arg0 i else V c main_v0 i := by
  refine (copies n V 0 c).arrAt_eq_of_coversWhere 1 _ (fun β => β (0 : Fin 2) < 3) head_blocks (fun t hf y => ?_) (fun j => Iff.rfl)
  rfl

/-! ## The tail -/

/-- The tail's body finds the block of values in the buffer it reads. -/
theorem tail_before (t : Fin cfg2.N) (d) : (copies n V 1 c).before 0 t d = ((cfg2.win 0).blk t).view.read (Elt F) (V c main_arg0) :=
  (copies n V 1 c).before_fetched 0 t (fetch2_0 t) d

/-- And the array of indices in the other, whether it has just been read or stands there since the first point. -/
theorem tail_before_indices (t : Fin cfg2.N) (d) :
    (copies n V 1 c).before 1 t d = ((cfg2.win 1).blk t).view.read (Elt F) (V c main_v2) :=
  (copies n V 1 c).before_in_eq_fetched 1 rfl (fun _ => rfl) (fun _ _ _ => rfl) (fun _ => rfl) t d

/-- The point at which the body copies the indices is the last. -/
theorem last_point : ∀ t : Fin cfg2.N, (k2_cond1 (grid2.coords t) = 1#1 ↔ (cfg2.win 3).flush t = true) := by decide +kernel

/-- The tail's body at every point. -/
theorem tail_obligation : Pipeline.BodyObligation (copies n V 1 c) (defs₀ (F := F)) 𝒱₀ none Set.univ := fun t => by
  rw [bigSep_W2, bigSep_W2]
  iintro ⟨HΦ, HO, ⟨%d, H⟩, ⟨%u, G⟩, ⟨%d', H'⟩, ⟨%u', G'⟩⟩
  rw [tail_before n V c t d, tail_before_indices n V c t u]
  iapply (tail_body c (grid2.coords t) (Memref.whole main_v1_0) (Memref.isWhole_whole _) (st2_0 t) (stage_whole2 0 _) (st2_1 t) (stage_whole2 1 _)
    (st2_2 t) (stage_whole2 2 _) (st2_3 t) (stage_whole2 3 _) _ _ _ _ Set.univ _)
  isplitl [H]; · iexact H
  isplitl [G]; · iexact G
  isplitl [H']; · iexact H'
  isplitl [G']; · iexact G'
  dsimp only [Pipeline.pin, copies, stagedAfter, tailAfter]
  iintro ⟨H, G, H', G'⟩
  isplitl [HΦ]; · iexact HΦ
  isplitl [HO]; · iexact HO
  isplitl [H]; · iexact H
  isplitl [G]; · iexact G
  isplitl [H']; · iexact H'
  by_cases hi : k2_cond1 (grid2.coords t) = 1#1
  · have idle : (cfgs 1).idle 3 (((pcfgs (F := F) 1).gridAt Pipeline.Prefetch.Contents.none).coords t) = false := by
      show (!(k2_cond1 (grid2.coords t) == 1#1)) = false
      rw [hi]; rfl
    rw [if_pos hi, idle]
    dsimp only
    iexact G'
  · have idle : (cfgs 1).idle 3 (((pcfgs (F := F) 1).gridAt Pipeline.Prefetch.Contents.none).coords t) = true := by
      show (!(k2_cond1 (grid2.coords t) == 1#1)) = true
      rw [beq_false_of_ne hi]; rfl
    have kept : ((pcfgs (F := F) 1).win (adm 1) 3).flush t = false := by
      rw [← Bool.not_eq_true]
      exact fun h => hi ((last_point t).mpr h)
    rw [if_neg hi, idle, kept]
    dsimp only
    iexists u'
    iexact G'

/-- The blocks of values the tail writes are all but the first three, -/
theorem tail_blocks : win2_2.CoversWhere fun β => 3 ≤ β (0 : Fin 2) := by decide +kernel

/-- and its one block of indices is the whole array. -/
theorem index_blocks : win2_3.Covers := by decide +kernel

/-- The tail leaves the values in all blocks of rows but the first three, and those as they were. -/
theorem tail_array : (copies n V 1 c).arrAt 2 cfg2.N
    = fun i : S32768x1024.Idx => if 3 ≤ (i 0 : ℕ) / 2048 then V c main_arg0 i else V c main_v3_0 i := by
  refine (copies n V 1 c).arrAt_eq_of_coversWhere 2 _ (fun β => 3 ≤ β (0 : Fin 2)) tail_blocks (fun t hf y => ?_) (fun j => Iff.rfl)
  rfl

/-- And the indices in theirs. -/
theorem tail_indices : (copies n V 1 c).arrAt 3 cfg2.N = V c main_v2 := by
  refine (copies n V 1 c).arrAt_eq_of_covers 3 _ index_blocks (fun t hf y => ?_)
  rfl

end Cert.Proof

end
-- ==== Proof.Values.lean ====
/-
  The values: what the kernel makes of the table of index pairs.

  Each row of the table is a pair `(begin, end)`; the kernel leaves `begin` as it is and puts the smaller of
  `begin + 2048` and `end` (as signed numbers) in place of `end`.
-/
module

public import proofs.«01_k».proof.Defs

@[expose] public section

noncomputable section

namespace Cert.Proof

open Cert.KernelIdeal
open Idealize.ShloMosaic

/-- A table of sixteen pairs of 32-bit integers. -/
abbrev Table : Type := S16x2.Idx → BitVec 32

/-- The place of the first number of the pair that place `i` belongs to. -/
def beginOf (i : S16x2.Idx) : S16x2.Idx := fun
  | 0 => i 0
  | 1 => (0 : Fin 2)

/-- The second number of the shortened pair, at a place `i` of the second column. -/
def shortEnd (f : Table) (i : S16x2.Idx) : BitVec 32 := Scalar.minsi (Scalar.addi (f (beginOf i)) 2048#32) (f i)

/-- The table with its first `n` pairs shortened. -/
def truncTo (n : ℕ) (f : Table) : Table := fun i => if (i 0).val < n ∧ (i 1).val = 1 then shortEnd f i else f i

/-- The table with every pair shortened. -/
def trunc (f : Table) : Table := fun i => if (i 1).val = 1 then shortEnd f i else f i

theorem truncTo_zero (f : Table) : truncTo 0 f = f := by
  funext i; simp [truncTo]

/-- From row `n` on, nothing has changed. -/
theorem truncTo_of_ge {n : ℕ} (f : Table) (i : S16x2.Idx) (h : n ≤ (i 0).val) : truncTo n f i = f i :=
  if_neg fun hi => absurd hi.1 (Nat.not_lt.mpr h)

/-- Sixteen pairs are all of them. -/
theorem truncTo_all (f : Table) : truncTo 16 f = trunc f := by
  funext i
  have h : (i 0).val < 16 := (i 0).isLt
  simp only [truncTo, trunc, h, true_and]

theorem beginOf_zero (i : S16x2.Idx) : (beginOf i 0).val = (i 0).val := rfl
theorem beginOf_one (i : S16x2.Idx) : (beginOf i 1).val = 0 := rfl

/-- Places with the same coordinates are the same place. -/
theorem place_ext {i j : S16x2.Idx} (h0 : (i 0).val = (j 0).val) (h1 : (i 1).val = (j 1).val) : i = j := by
  funext a
  match a with
  | 0 => exact Fin.ext h0
  | 1 => exact Fin.ext h1

end Cert.Proof

end
-- ==== Proof.States.lean ====
/-
  What the arrays of a device hold after each step of the program, the two block-by-block copies as steps between such
  states, and the results read off the last state.
-/
module

public import proofs.«01_k».proof.Proof.Copies
public import proofs.«01_k».proof.Proof.Values

@[expose] public section

noncomputable section

namespace Cert.Proof

open Cert.KernelIdeal Cert.KernelIdeal.Gen
open Idealize.ShloMosaic Idealize.ShloMosaic.TcCoe
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode

variable {F : FTy → Type}

local notation "𝕄" => MT nD τ sig (HIx 1) (Elt F) ℕ UU ℕ

/-- The contents of a device's arrays. -/
abbrev State (F : FTy → Type) : Type := Valuation τ sig (Elt F)

/-- The arrays of each device, as a copy sees them. -/
abbrev arraysOf (W : Dev nD → State F) : Arrays F := fun c b => W c b

/-- After the copy of the head: the first three blocks of `main_v0` are those of the values. -/
def headDone (W : State F) : State F :=
  Function.update W main_v0 fun i : S32768x1024.Idx => if (i 0 : ℕ) / 2048 < 3 then W main_arg0 i else W main_v0 i

/-- After the copy of the tail: the other blocks of the first result are those of the values, the second result is the
    shortened table. -/
def tailDone (W : State F) : State F :=
  Function.update
    (Function.update W main_v3_0 fun i : S32768x1024.Idx => if 3 ≤ (i 0 : ℕ) / 2048 then W main_arg0 i else W main_v3_0 i)
    main_v3_1 (W main_v2)

/-- After the SparseCore's call: `main_v2` holds the table shortened. -/
def callDone (t : Table) (W : State F) : State F := Function.update W main_v2 (trunc t)

theorem headDone_self (W : State F) :
    headDone W main_v0 = fun i : S32768x1024.Idx => if (i 0 : ℕ) / 2048 < 3 then W main_arg0 i else W main_v0 i :=
  Function.update_self _ _ _
theorem headDone_ne (W : State F) {b : Ref sig .tc} (h : b ≠ main_v0) : headDone W b = W b :=
  Function.update_of_ne (StableHlo.devRef_ne_of_ne h) _ _

theorem tailDone_values (W : State F) :
    tailDone W main_v3_0 = fun i : S32768x1024.Idx => if 3 ≤ (i 0 : ℕ) / 2048 then W main_arg0 i else W main_v3_0 i := by
  unfold tailDone
  rw [Function.update_of_ne (StableHlo.devRef_ne_of_ne (by decide)), Function.update_self]
theorem tailDone_indices (W : State F) : tailDone W main_v3_1 = W main_v2 :=
  Function.update_self _ _ _
theorem tailDone_ne (W : State F) {b : Ref sig .tc} (h : b ≠ main_v3_0) (h' : b ≠ main_v3_1) : tailDone W b = W b :=
  (Function.update_of_ne (StableHlo.devRef_ne_of_ne h') _ _).trans (Function.update_of_ne (StableHlo.devRef_ne_of_ne h) _ _)

theorem callDone_self (t : Table) (W : State F) : callDone t W main_v2 = trunc t := Function.update_self _ _ _
theorem callDone_ne (t : Table) (W : State F) {b : Ref sig .tc} (h : b ≠ main_v2) : callDone t W b = W b :=
  Function.update_of_ne (StableHlo.devRef_ne_of_ne h) _ _

variable [FloatOps F]

/-! ## The two copies as steps -/

/-- The head's copy takes every device from `W` to `headDone W`. -/
def headStep (n : ℕ) (W : Dev nD → State F) :
    Pipeline.RegionSeg (pcfgs (F := F)) adm (copies n (arraysOf W)) none (defs₀ (F := F)) 𝒱₀ (K (F := F)).L (K (F := F)).lev 0 :=
  copyStep n (arraysOf W) (arraysOf fun c => headDone (W c)) 0 (fun c => head_obligation n (arraysOf W) c)
    (fun c w => match w with
      | ⟨0, _⟩ => ((copies n (arraysOf W) 0 c).arrAt_in 0 rfl _).trans (headDone_ne (W c) (b := main_arg0) (by decide)).symm
      | ⟨1, _⟩ => (head_array n (arraysOf W) c).trans (headDone_self (W c)).symm)
    (fun c b hb => headDone_ne (W c) fun h => hb (h ▸ Finset.mem_image.2 ⟨(1 : Fin cfg0.W), Finset.mem_univ _, rfl⟩))

/-- The tail's copy takes every device from `W` to `tailDone W`. -/
def tailStep (n : ℕ) (W : Dev nD → State F) :
    Pipeline.RegionSeg (pcfgs (F := F)) adm (copies n (arraysOf W)) none (defs₀ (F := F)) 𝒱₀ (K (F := F)).L (K (F := F)).lev 1 :=
  copyStep n (arraysOf W) (arraysOf fun c => tailDone (W c)) 1 (fun c => tail_obligation n (arraysOf W) c)
    (fun c w => match w with
      | ⟨0, _⟩ => ((copies n (arraysOf W) 1 c).arrAt_in 0 rfl _).trans
          (tailDone_ne (W c) (b := main_arg0) (by decide) (by decide)).symm
      | ⟨1, _⟩ => ((copies n (arraysOf W) 1 c).arrAt_in 1 rfl _).trans
          (tailDone_ne (W c) (b := main_v2) (by decide) (by decide)).symm
      | ⟨2, _⟩ => (tail_array n (arraysOf W) c).trans (tailDone_values (W c)).symm
      | ⟨3, _⟩ => (tail_indices n (arraysOf W) c).trans (tailDone_indices (W c)).symm)
    (fun c b hb => tailDone_ne (W c)
      (fun h => hb (h ▸ Finset.mem_image.2 ⟨(2 : Fin cfg2.W), Finset.mem_univ _, rfl⟩))
      (fun h => hb (h ▸ Finset.mem_image.2 ⟨(3 : Fin cfg2.W), Finset.mem_univ _, rfl⟩)))

/-! ## The states the program goes through -/

/-- The program's three whole-array copies: the head, the table, the head once more. -/
abbrev copyHead : HloOp τ sig (Elt F) :=
  StableHlo.unary main_v0 main_v1_0 (id : main_v0.ty.Contents (Elt F) → main_v1_0.ty.Contents (Elt F))
abbrev copyTable : HloOp τ sig (Elt F) :=
  StableHlo.unary main_arg1 main_v1_1 (id : main_arg1.ty.Contents (Elt F) → main_v1_1.ty.Contents (Elt F))
abbrev copyHead' : HloOp τ sig (Elt F) :=
  StableHlo.unary main_v1_0 main_v3_0 (id : main_v1_0.ty.Contents (Elt F) → main_v3_0.ty.Contents (Elt F))

variable (m : (ℓ : Loc nD τ sig) → Buf (Elt F) ℓ)

/-- At the start. -/
def start (d : Dev nD) : State F := fun b => m (d, b)
/-- When the SparseCore is called. -/
def called (d : Dev nD) : State F := copyTable.result (copyHead.result (headDone (start m d)))
/-- When the tail is to be copied. -/
def answered (d : Dev nD) : State F := copyHead'.result (callDone (m ((d : Thread nD τ).loc main_arg1)) (called m d))
/-- At the end. -/
def finished (d : Dev nD) : State F := tailDone (answered m d)

/-- The SparseCore is handed the table. -/
theorem called_table (d : Dev nD) : called m d main_v1_1 = m ((d : Thread nD τ).loc main_arg1) := by
  unfold called
  rw [StableHlo.unary_result, StableHlo.unary_result_ne (h := by decide), headDone_ne _ (by decide)]
  rfl

/-- An array none of the steps up to the SparseCore's call writes is as at the start. -/
theorem called_ne (d : Dev nD) {b : Ref sig .tc} (h : b ≠ main_v0) (h0 : b ≠ main_v1_0) (h1 : b ≠ main_v1_1) :
    called m d b = m ((d : Thread nD τ).loc b) := by
  unfold called
  rw [StableHlo.unary_result_ne (h := h1), StableHlo.unary_result_ne (h := h0), headDone_ne _ h]
  rfl

/-- The two arguments come through unchanged. -/
theorem finished_values (d : Dev nD) : finished m d main_arg0 = m ((d : Thread nD τ).loc main_arg0) := by
  unfold finished answered
  rw [tailDone_ne _ (by decide) (by decide), StableHlo.unary_result_ne (h := by decide), callDone_ne _ _ (by decide),
    called_ne m d (by decide) (by decide) (by decide)]
theorem finished_table (d : Dev nD) : finished m d main_arg1 = m ((d : Thread nD τ).loc main_arg1) := by
  unfold finished answered
  rw [tailDone_ne _ (by decide) (by decide), StableHlo.unary_result_ne (h := by decide), callDone_ne _ _ (by decide),
    called_ne m d (by decide) (by decide) (by decide)]

/-- The second result is the table shortened. -/
theorem finished_indices (d : Dev nD) : finished m d main_v3_1 = trunc (m ((d : Thread nD τ).loc main_arg1)) := by
  unfold finished answered
  rw [tailDone_indices, StableHlo.unary_result_ne (h := by decide), callDone_self]

/-- The first result is the array of values: its first three blocks went through the head, the others through the
    tail. -/
theorem finished_copy (d : Dev nD) : finished m d main_v3_0 = m ((d : Thread nD τ).loc main_arg0) := by
  unfold finished
  rw [tailDone_values]
  funext i
  split
  · unfold answered
    rw [StableHlo.unary_result_ne (h := by decide), callDone_ne _ _ (by decide), called_ne m d (by decide) (by decide) (by decide)]
  · rename_i h
    unfold answered
    rw [StableHlo.unary_result, callDone_ne _ _ (by decide)]
    unfold called
    rw [StableHlo.unary_result_ne (h := by decide), StableHlo.unary_result, headDone_self]
    exact if_pos (Nat.lt_of_not_le h)

end Cert.Proof

end
-- ==== Proof.Body.lean ====
/-
  The SparseCore kernel's rows.

  The kernel holds the table in the scalar memory of its subcore and works row by row: it loads the row's two numbers,
  and stores the shortened second one in its place. One row's run is stated here for any row; the kernel's body is this
  row sixteen times between two copies.
-/
module

public import proofs.«01_k».proof.Proof.Setup
public import proofs.«01_k».proof.Proof.Values

@[expose] public section

noncomputable section

namespace Cert.Proof

open Cert.KernelIdeal Cert.KernelIdeal.Gen
open Idealize.ShloMosaic
open Idealize.ShloMosaic.SparseCore (S)
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Tactic

variable {F : FTy → Type}

local notation "𝕄" => MT nD τ sig (HIx 1) (Elt F) ℕ UU ℕ

/-- The scalar subcore's thread that runs the kernel. -/
abbrev subcore (d : Dev nD) (c : Fin (grid1.bound 0)) : Thread nD τ := S d (c.castLE hcore1)

/-! ## The one place a load or a store touches -/

/-- The place at row `n`, column `k`, of the table. -/
abbrev cell (n k : ℕ) (h : ∀ a, (![n, k] : Fin 2 → ℕ) a + S1x1.size a ≤ S16x2.size a) : Rect S16x2 :=
  Rect.unit (s := S16x2) ![n, k] S1x1.size h

theorem cell_row {n k : ℕ} (h : ∀ a, (![n, k] : Fin 2 → ℕ) a + S1x1.size a ≤ S16x2.size a) (x : (cell n k h).shape.Idx) :
    ((cell n k h).emb x 0).val = n := by
  have hx : (x 0).val < 1 := (x 0).isLt
  show n + 1 * (x 0).val = n
  omega

theorem cell_col {n k : ℕ} (h : ∀ a, (![n, k] : Fin 2 → ℕ) a + S1x1.size a ≤ S16x2.size a) (x : (cell n k h).shape.Idx) :
    ((cell n k h).emb x 1).val = k := by
  have hx : (x 1).val < 1 := (x 1).isLt
  show k + 1 * (x 1).val = k
  omega

/-- A load at row `n`, column `k`, of contents `f` answers what `f` holds at any place with these coordinates. -/
theorem read_cell {n k : ℕ} (h : ∀ a, (![n, k] : Fin 2 → ℕ) a + S1x1.size a ≤ S16x2.size a) (f : Table) (x : (cell n k h).shape.Idx)
    (i : S16x2.Idx) (h0 : (i 0).val = n) (h1 : (i 1).val = k) :
    ((bufW).access (cell n k h)).read (Elt F) f x = f i :=
  congrArg f (place_ext ((cell_row h x).trans h0.symm) ((cell_col h x).trans h1.symm))

/-- Storing the shortened second number of row `n` in its place: one more row is done. -/
theorem write_cell {n : ℕ} (h : ∀ a, (![n, 1] : Fin 2 → ℕ) a + S1x1.size a ≤ S16x2.size a) (f : Table) (v : BitVec 32)
    (hv : ∀ i : S16x2.Idx, (i 0).val = n → (i 1).val = 1 → v = shortEnd f i) :
    ((bufW).access (cell n 1 h)).write (Elt F) (truncTo n f) (fun _ => v) Finset.univ = truncTo (n + 1) f := by
  have hr : ∀ i, ((bufW).access (cell n 1 h)).write (Elt F) (truncTo n f) (fun _ => v) Finset.univ i
      = if i ∈ (Finset.univ.map (cell n 1 h).emb : Finset S16x2.Idx) then v else truncTo n f i := by
    intro i
    split
    · next hi =>
      obtain ⟨x, -, rfl⟩ := Finset.mem_map.mp hi
      exact View.read_slice_write_emb (v := (bufW).view) (Val := Elt F) (cell n 1 h) (truncTo n f) (fun _ => v) (Finset.mem_univ x)
    · next hi =>
      exact View.read_slice_write_of_not_mem (v := (bufW).view) (Val := Elt F) (cell n 1 h) (truncTo n f) (fun _ => v) Finset.univ hi
  funext i
  rw [hr i]
  unfold truncTo
  split
  · next hi =>
    obtain ⟨x, -, rfl⟩ := Finset.mem_map.mp hi
    have h0 := cell_row h x
    have h1 := cell_col h x
    rw [if_pos ⟨by omega, h1⟩, hv _ h0 h1]
  · next hi =>
    have hn : ¬ ((i 0).val = n ∧ (i 1).val = 1) := fun ⟨h0, h1⟩ => hi (Finset.mem_map.mpr
      ⟨fun | 0 => (0 : Fin 1) | 1 => (0 : Fin 1), Finset.mem_univ _, place_ext ((cell_row h _).trans h0.symm) ((cell_col h _).trans h1.symm)⟩)
    by_cases h1 : (i 1).val = 1
    · by_cases h0 : (i 0).val < n
      · rw [if_pos ⟨h0, h1⟩, if_pos ⟨by omega, h1⟩]
      · rw [if_neg (by tauto), if_neg (by omega)]
    · rw [if_neg (by tauto), if_neg (by tauto)]

/-! ## One row's run -/

variable [FloatOps F]

/-- Row `n`: from the table with `n` rows done, its three loads and its store leave the table with `n + 1` rows done. -/
theorem row_run (d : Dev nD) (c : Fin (grid1.bound 0)) (n : ℕ)
    {h0 : ∀ a, (![n, 0] : Fin 2 → ℕ) a + S1x1.size a ≤ S16x2.size a} {h1 : ∀ a, (![n, 1] : Fin 2 → ℕ) a + S1x1.size a ≤ S16x2.size a}
    {hn : S1x1.numel = 1} {hp : EltTy.packing .i32 = 1} {hst hm} (f : Table)
    (p : Prog (TpuEff nD τ sig (Elt F) Λ₀ (subcore d c).2) PUnit) (Q : PUnit → sProp 𝕄) :
    ((bufW).view.loc (subcore d c) ↦{fullShare} truncTo n f : sProp 𝕄)
      ⊢ iprop((((bufW).view.loc (subcore d c) ↦{fullShare} truncTo (n + 1) f)
          -∗ wp frame (wpE (defs₀ (F := F)) 𝒱₀ (subcore d c) none) Set.univ p Q) -∗
        wp frame (wpE (defs₀ (F := F)) 𝒱₀ (subcore d c) none) Set.univ (do
          let b ← smemLoad bufW (cell n 0 h0) hn hp
          let e ← smemLoad bufW (cell n 1 h1) hn hp
          let _ ← smemLoad bufW (cell n 1 h1) hn hp
          Prog.lift (.store bufW (cell n 1 h1) (fun _ => Scalar.minsi (Scalar.addi b 2048#32) e) Finset.univ hst hm)
          p) Q) := by
  iintro Hb Hk
  sl_exec
  iapply Hk
  have hb : ∀ i : S16x2.Idx, (i 0).val = n → row_run.sl.r (F := F) (hn := hn) n f = f (beginOf i) := fun i hi =>
    (read_cell (F := F) h0 (truncTo n f) _ (beginOf i) hi rfl).trans (truncTo_of_ge f (beginOf i) (le_of_eq hi.symm))
  have he : ∀ i : S16x2.Idx, (i 0).val = n → (i 1).val = 1 → row_run.sl.r_1 (F := F) (hn := hn) n f = f i := fun i hi hi' =>
    (read_cell (F := F) h1 (truncTo n f) _ i hi hi').trans (truncTo_of_ge f i (le_of_eq hi.symm))
  have hw : (bufW).view.writes (Elt F) (truncTo n f)
      [⟨cell n 1 h1, fun _ => Scalar.minsi (Scalar.addi (row_run.sl.r (F := F) (hn := hn) n f) 2048#32) (row_run.sl.r_1 (F := F) (hn := hn) n f)⟩]
        = truncTo (n + 1) f :=
    write_cell (F := F) h1 f _ fun i hi hi' => by rw [hb i hi, he i hi hi']; rfl
  rw [hw]
  iexact Hb

/-! ## The whole body -/

variable (d : Dev nD) (c : Fin (grid1.bound 0)) (O : CellTallies nD τ sig (HIx 1)) (W : Waits sig (HIx 1)) (f t b : Table)

/-- The table into the scalar memory: the transfer and the wait for it. -/
theorem copy_in (p : Prog (TpuEff nD τ sig (Elt F) Λ₀ (subcore d c).2) PUnit) (Q : PUnit → sProp 𝕄) {h1 h2 h3 h4 h5} :
    iprop(Transfers.MayWaits (subcore d c) (none : HIx 1) O ∗ ((srcW).view.loc (subcore d c) ↦{fullShare} f)
        ∗ ((bufW).view.loc (subcore d c) ↦{fullShare} b) ∗ semVal (subcore d c, SemLoc.dma cc1_scoped0.sem) 0 ∗ owes (subcore d c) O W
        ∗ (((srcW).view.loc (subcore d c) ↦{fullShare} f) -∗ ((bufW).view.loc (subcore d c) ↦{fullShare} truncTo 0 f)
          -∗ semVal (subcore d c, SemLoc.dma cc1_scoped0.sem) 0
          -∗ owes (subcore d c) O (insert (SemLoc.dma cc1_scoped0.sem, (default : HIx 1)) W)
          -∗ wp frame (wpE (defs₀ (F := F)) 𝒱₀ (subcore d c) none) Set.univ p Q))
      ⊢ wp frame (wpE (defs₀ (F := F)) 𝒱₀ (subcore d c) none) Set.univ
          (do
            Prog.lift (.enqueueDma srcW (.here bufW) (.dma cc1_scoped0.sem) h1 h2 h3)
            Prog.lift (.waitDma2 cc1_scoped0.sem srcW bufW h4 h5)
            p) Q := by
  iintro ⟨#Hmw, Hs, Hb, Hsem, HO, Hk⟩
  sl_exec
  have hw : (bufW).view.write (Elt F) b (copy_in.sl.dma0 (F := F) f) Finset.univ = truncTo 0 f :=
    (View.write_whole_univ _ _ _).trans (truncTo_zero f).symm
  rw [hw]
  iapply Hk $$ Hs Hb [Hsem] [HO]
  · iexact Hsem
  · iexact HO

/-- The table out of the scalar memory, likewise. -/
theorem copy_out (p : Prog (TpuEff nD τ sig (Elt F) Λ₀ (subcore d c).2) PUnit) (Q : PUnit → sProp 𝕄) {h1 h2 h3 h4 h5} :
    iprop(Transfers.MayWaits (subcore d c) (none : HIx 1) O ∗ ((dstW).view.loc (subcore d c) ↦{fullShare} t)
        ∗ ((bufW).view.loc (subcore d c) ↦{fullShare} b) ∗ semVal (subcore d c, SemLoc.dma cc1_scoped1.sem) 0 ∗ owes (subcore d c) O W
        ∗ (((dstW).view.loc (subcore d c) ↦{fullShare} b) -∗ ((bufW).view.loc (subcore d c) ↦{fullShare} b)
          -∗ semVal (subcore d c, SemLoc.dma cc1_scoped1.sem) 0
          -∗ owes (subcore d c) O (insert (SemLoc.dma cc1_scoped1.sem, (default : HIx 1)) W)
          -∗ wp frame (wpE (defs₀ (F := F)) 𝒱₀ (subcore d c) none) Set.univ p Q))
      ⊢ wp frame (wpE (defs₀ (F := F)) 𝒱₀ (subcore d c) none) Set.univ
          (do
            Prog.lift (.enqueueDma bufW (.here dstW) (.dma cc1_scoped1.sem) h1 h2 h3)
            Prog.lift (.waitDma2 cc1_scoped1.sem bufW dstW h4 h5)
            p) Q := by
  iintro ⟨#Hmw, Ht, Hb, Hsem, HO, Hk⟩
  sl_exec
  have hw : (dstW).view.write (Elt F) t (copy_out.sl.dma0 (F := F) b) Finset.univ = b := View.write_whole_univ _ _ _
  rw [hw]
  iapply Hk $$ Ht Hb [Hsem] [HO]
  · iexact Hsem
  · iexact HO

/-- The kernel's grid place on SparseCore `c`. -/
def gridPlace (c : Fin (grid1.bound 0)) : grid1.Coords := fun
  | 0 => c
  | ⟨_ + 1, h⟩ => absurd h (Nat.not_lt.2 (Nat.le_add_left _ _))

/-- The kernel's condition, that this is the first SparseCore, holds: the grid is that one SparseCore. -/
theorem onFirst (c : Fin (grid1.bound 0)) :
    Scalar.cmpi .ne (Scalar.extui (Scalar.cmpi .eq (BitVec.ofNat 32 (gridPlace c 0).val) 0#32) : BitVec 32) 0#32 = 1#1 := by
  decide +revert

/-- The body: the table is copied in, its sixteen rows are shortened one by one, and the table is copied out. -/
theorem body_run :
    iprop((Transfers.MayWaits (subcore d c) (none : HIx 1) O : sProp 𝕄)
        ∗ ((srcW).view.loc (subcore d c) ↦{fullShare} f) ∗ ((dstW).view.loc (subcore d c) ↦{fullShare} t)
        ∗ ((bufW).view.loc (subcore d c) ↦{fullShare} b)
        ∗ semVal (subcore d c, SemLoc.dma cc1_scoped0.sem) 0 ∗ semVal (subcore d c, SemLoc.dma cc1_scoped1.sem) 0
        ∗ owes (subcore d c) O W)
      ⊢ wp frame (wpE (defs₀ (F := F)) 𝒱₀ (subcore d c) none) Set.univ
          (cc1__trunc_sc (gridPlace c) srcW (Memref.isWhole_whole _) dstW (Memref.isWhole_whole _) bufW (Memref.isWhole_whole _) cc1_scoped0 cc1_scoped1)
          fun _ => iprop(((srcW).view.loc (subcore d c) ↦{fullShare} f) ∗ ((dstW).view.loc (subcore d c) ↦{fullShare} trunc f)
            ∗ ((bufW).view.loc (subcore d c) ↦{fullShare} trunc f)
            ∗ semVal (subcore d c, SemLoc.dma cc1_scoped0.sem) 0 ∗ semVal (subcore d c, SemLoc.dma cc1_scoped1.sem) 0
            ∗ ∃ W', ⌜∀ p ∈ W', p ∈ W ∨ p.2 = none⌝ ∗ owes (subcore d c) O W') := by
  rw [cc1__trunc_sc_eq_skeleton]; unfold cc1__trunc_sc_skel
  rw [k1_part1_eq_skeleton, k1_part2_eq_skeleton, k1_part3_eq_skeleton, k1_part4_eq_skeleton, k1_part5_eq_skeleton]
  unfold k1_part1_skel k1_part2_skel k1_part3_skel k1_part4_skel k1_part5_skel
  conv_rhs => simp only [onFirst c, dif_pos, bind_assoc, pure_bind]
  iintro ⟨#Hmw, Hi, Ht, Hb, Hs0, Hs1, HO⟩
  iapply (copy_in d c O W f b _ _)
  isplitr; · iexact Hmw
  isplitl [Hi]; · iexact Hi
  isplitl [Hb]; · iexact Hb
  isplitl [Hs0]; · iexact Hs0
  isplitl [HO]; · iexact HO
  iintro Hi Hb Hs0 HO
  iterate 16
    iapply (row_run d c _ f _ _) $$ Hb
    iintro Hb
  iapply (copy_out d c O _ t (trunc f) _ _)
  isplitr; · iexact Hmw
  isplitl [Ht]; · iexact Ht
  isplitl [Hb]; · rw [← truncTo_all f]; iexact Hb
  isplitl [Hs1]; · iexact Hs1
  isplitl [HO]; · iexact HO
  iintro Ht Hb Hs1 HO
  sl_step
  isplitl [Hi]; · iexact Hi
  isplitl [Ht]; · iexact Ht
  isplitl [Hb]; · iexact Hb
  isplitl [Hs0]; · iexact Hs0
  isplitl [Hs1]; · iexact Hs1
  iexists (insert (SemLoc.dma cc1_scoped1.sem, (default : HIx 1)) (insert (SemLoc.dma cc1_scoped0.sem, (default : HIx 1)) W)); isplitr
  · ipureintro
    intro p hp
    rcases Finset.mem_insert.mp hp with hp | hp
    · exact .inr (hp ▸ rfl)
    rcases Finset.mem_insert.mp hp with hp | hp
    · exact .inr (hp ▸ rfl)
    · exact .inl hp
  · iexact HO

end Cert.Proof

end
-- ==== Proof.Call.lean ====
/-
  The SparseCore kernel as the program calls it: what the call hands over and what comes back.
-/
module

public import proofs.«01_k».proof.Proof.Body

@[expose] public section

noncomputable section

namespace Cert.Proof

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI Idealize.SL.Sem
open scoped Idealize.SL.BI
open Idealize.SL.BI.BIBase Idealize.SL.BI.Laws Idealize.SL.ProofMode
open Idealize.ShloMosaic.Tactic

variable {F : FTy → Type}

local notation "𝕄" => MT nD τ sig (HIx 1) (Elt F) ℕ UU ℕ

variable (m : (ℓ : Loc nD τ sig) → Buf (Elt F) ℓ)

/-- The table of index pairs as the program is started with it. -/
abbrev table (d : Dev nD) : Table := m (indicesLoc d)

/-- What the call hands the SparseCore: the table's copy, and the array for the result. -/
def handed (d : Dev nD) : sProp 𝕄 :=
  iprop((indices'Loc d ↦{fullShare} table m d) ∗ ∃ t, truncLoc d ↦{fullShare} t)

/-- What comes back: the copy as it was, and the shortened table. -/
def returned (d : Dev nD) : sProp 𝕄 :=
  iprop((indices'Loc d ↦{fullShare} table m d) ∗ truncLoc d ↦{fullShare} trunc (table m d))

instance handed_storable (d : Dev nD) : BI.Storable (upEmb : UEmb _ 𝕄) (handed m d) := by
  unfold handed; infer_instance
instance returned_storable (d : Dev nD) : BI.Storable (upEmb : UEmb _ 𝕄) (returned m d) := by
  unfold returned; infer_instance

/-- The call's payloads. -/
def P : (K (F := F)).Pay (nD := nD) (Val := Elt F) (Name := ℕ) (U := UU) where
  st := fun _ d _ => handed m d
  dn := fun _ d _ => returned m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The subcore's own storage: its two transfer semaphores and its scalar memory -/

section Storage

variable (d : Dev nD) (c : Fin τ.nSC)

abbrev inSem : GSem nD τ sig := (S d c, .dma cc1_scoped0.sem)
abbrev outSem : GSem nD τ sig := (S d c, .dma cc1_scoped1.sem)

theorem sems_split :
    (ownSems0 (S d c) : sProp 𝕄) = iprop(semVal (inSem d c) 0 ∗ semVal (outSem d c) 0
      ∗ bigSep (((ownCells (S d c)).erase (inSem d c)).erase (outSem d c)) fun g => semVal g 0) := by
  unfold ownSems0
  rw [SparseCore.bigSep_erase' (i := inSem d c) (mem_ownCells.mpr ⟨rfl, by show (SemLoc.dma cc1_scoped0.sem : SemLoc sig).isScoped .scScalar = true; decide⟩),
    SparseCore.bigSep_erase' (i := outSem d c) (Finset.mem_erase.mpr
      ⟨fun h => absurd (congrArg Prod.snd h) (by show ¬ (SemLoc.dma cc1_scoped1.sem : SemLoc sig) = SemLoc.dma cc1_scoped0.sem; decide), mem_ownCells.mpr ⟨rfl, by show (SemLoc.dma cc1_scoped1.sem : SemLoc sig).isScoped .scScalar = true; decide⟩⟩)]

/-- The scalar memory's table, among the device's buffers. -/
abbrev scratch : DevRef τ sig := (Proc.scScalar c).devRef cc1_scratch0

theorem bufs_split :
    (ownBufs (S d c) : sProp 𝕄) = iprop((∃ f, ((d, scratch c) : Loc nD τ sig) ↦{fullShare} f)
      ∗ bigSep ((ownRefs (Proc.scScalar c)).erase (scratch c)) fun b => iprop(∃ f, ((d, b) : Loc nD τ sig) ↦{fullShare} f)) := by
  unfold ownBufs
  have h : scratch c ∈ ownRefs (S d c : Thread nD τ).2 := mem_ownRefs.mpr rfl
  rw [SparseCore.bigSep_erase' h]

end Storage

variable [FloatOps F]

/-- The call's body, with the subcore's storage as the launch hands it over and takes it back. -/
theorem body_call (d : Dev nD) (c : Fin (grid1.bound 0)) (O : CellTallies nD τ sig (HIx 1)) (W : Waits sig (HIx 1)) (hO : ∀ g, O g none = 0) :
    iprop((levAts (K (F := F)).L (K (F := F)).lev : sProp 𝕄) ∗ emp ∗ handed m d
        ∗ scopedBufs (subcore d c) ∗ scopedSems0 (subcore d c) ∗ owes (subcore d c) O W)
      ⊢ wp frame (wpE (defs₀ (F := F)) 𝒱₀ (subcore d c) none) Set.univ
          (cc1__trunc_sc (gridPlace c) srcW (Memref.isWhole_whole _) dstW (Memref.isWhole_whole _) bufW (Memref.isWhole_whole _) cc1_scoped0 cc1_scoped1)
          fun _ => iprop(returned m d ∗ scopedBufs (subcore d c) ∗ scopedSems0 (subcore d c)
            ∗ ∃ W', ⌜∀ p ∈ W', p ∈ W ∨ p.2 = none ∨ p.2 = some (0 : Fin 1)⌝ ∗ owes (subcore d c) O W') := by
  unfold handed returned
  iintro ⟨#Hlv, -, ⟨Hi, %t, Ht⟩, Hsb, Hss, HO⟩
  ihave Hss' := (SparseCore.Cfg.scopedSems0_S_elim (Val := Elt F) d (c.castLE hcore1)) $$ Hss
  icases Hss' with ⟨Hown, Hsubs⟩
  ihave Hown' := (Entails.of_eq (sems_split (F := F) d (c.castLE hcore1))) $$ Hown
  icases Hown' with ⟨Hs0, Hs1, Hsrest⟩
  ihave Hsb' := ((K (F := F)).scopedBufs_S_elim (Val := Elt F) facts d (c.castLE hcore1)) $$ Hsb
  icases Hsb' with ⟨Hbown, Hbsubs⟩
  ihave Hbown' := (Entails.of_eq (bufs_split (F := F) d (c.castLE hcore1))) $$ Hbown
  icases Hbown' with ⟨⟨%b, Hb⟩, Hbrest⟩
  ihave Hmw := ((K (F := F)).mayWaits_none (thr := subcore d c) hO) $$ Hlv
  iapply (wp_wand_r frame _ Set.univ)
  isplitl [Hmw Hi Ht Hb Hs0 Hs1 HO]
  · iapply (body_run d c O W (table m d) t b)
    isplitl [Hmw]; · iexact Hmw
    isplitl [Hi]; · iexact Hi
    isplitl [Ht]; · iexact Ht
    isplitl [Hb]; · iexact Hb
    isplitl [Hs0]; · iexact Hs0
    isplitl [Hs1]; · iexact Hs1
    iexact HO
  iintro %_ ⟨Hi, Ht, Hb, Hs0, Hs1, %W', %hW', HO⟩
  isplitl [Hi Ht]
  · isplitl [Hi] <;> iassumption
  isplitl [Hb Hbrest Hbsubs]
  · iapply ((K (F := F)).scopedBufs_S_intro (Val := Elt F) facts d (c.castLE hcore1))
    isplitl [Hb Hbrest]
    · rw [bufs_split]
      isplitl [Hb]
      · iexists (trunc (table m d)); iexact Hb
      · iexact Hbrest
    · iexact Hbsubs
  isplitl [Hs0 Hs1 Hsrest Hsubs]
  · iapply (SparseCore.Cfg.scopedSems0_S_intro (Val := Elt F) d (c.castLE hcore1))
    isplitl [Hs0 Hs1 Hsrest]
    · rw [sems_split]
      isplitl [Hs0]; · iexact Hs0
      isplitl [Hs1]; · iexact Hs1
      iexact Hsrest
    · iexact Hsubs
  iexists W'; isplitr
  · ipureintro; exact fun p hp => (hW' p hp).imp_right Or.inl
  · iexact HO

theorem defs₀_scalar (c : Fin τ.nSC) :
    defs₀ (F := F) (.scScalar c) 1 ()
      = SparseCore.onCore hcore1 (fun c => cc1__trunc_sc (gridPlace c) srcW (Memref.isWhole_whole _) dstW (Memref.isWhole_whole _) bufW
          (Memref.isWhole_whole _) cc1_scoped0 cc1_scoped1) ⟨⟩ c := rfl

/-- What the launch asks of the call: from what it hands over, the body runs and hands back what it should. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 1 ())) _
  refine BI.Entails.trans ?_ (Pipeline.wp_liftProg (D (F := F)) (Pipeline.defs_kernel pcfgs defs₀) 𝒱₀ _ Set.univ none _ _)
  have hc : ((K (F := F)).core 0 c).val < grid1.bound 0 := c.isLt
  rw [defs₀_scalar]; simp only [SparseCore.onCore, hc, ↓reduceDIte]
  exact body_call m d c O W hO

end Cert.Proof

end
-- ==== Proof.Main.lean ====
/-
  The whole program run: the head's copy, the SparseCore's call, the tail's copy, and what each device's arrays hold at
  the end.
-/
module

public import proofs.«01_k».proof.Proof.States
public import proofs.«01_k».proof.Proof.Call

@[expose] public section

noncomputable section

namespace Cert.Proof

open Cert.KernelIdeal Cert.KernelIdeal.Gen
open Idealize.ShloMosaic Idealize.ShloMosaic.TcCoe
open Idealize.ShloMosaic.SparseCore.Cfg (HIx)
open Idealize.ShloMosaic.StableHlo (held)
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type}

local notation "𝕄" => MT nD τ sig (HIx 1) (Elt F) ℕ UU ℕ

/-! ## The ghost state at the start -/

/-- The handshakes' counters and those of the two copies, all at zero. -/
def u₀ : UU :=
  (initOf (K (F := F)).hsCells (K (F := F)).hsToks, (initOf (Pipeline.cells cfgs cellOf_inj) (Pipeline.launchToks cfgs cellOf_inj), 1))

/-- A device's ghost state for one of its copies. -/
def copyGhost (p : Fin 2) (d : Dev nD) : sProp 𝕄 :=
  iprop(Pipeline.cellsGhost cfgs (EP (F := F)) p d ∗ Pipeline.toksInit cfgs (EP (F := F)) p d)

/-- A device's ghost state: that of the head's copy and that of the tail's. -/
def copiesGhost (d : Dev nD) : sProp 𝕄 := iprop(copyGhost (F := F) 0 d ∗ copyGhost (F := F) 1 d)

/-- The copies' counters at zero give each device its ghost state. -/
theorem ghost_start :
    (BI.own (EP (F := F) (initOf (Pipeline.cells cfgs cellOf_inj) (Pipeline.launchToks cfgs cellOf_inj))) : sProp 𝕄)
      ⊢ |==> bigSep Finset.univ fun d : Dev nD => copiesGhost (F := F) d := by
  refine (Pipeline.fund_ghost cfgs EP cellOf_inj).trans (bupd_mono ?_)
  rw [← bigSep_sep']
  refine bigSep_mono fun d _ => ?_
  unfold copiesGhost copyGhost
  show (_ : sProp 𝕄) ⊢ _
  rw [show (Finset.univ : Finset (Fin 2)) = {0, 1} by decide, SparseCore.bigSep_insert' (by decide), SparseCore.bigSep_insert' (by decide), bigSep_singleton, bigSep_singleton]
  iintro ⟨⟨H0, H1⟩, T0, T1⟩
  isplitl [H0 T0]
  · isplitl [H0] <;> iassumption
  · isplitl [H1] <;> iassumption

section Run

variable [FloatOps F] (m : (ℓ : Loc nD τ sig) → Buf (Elt F) ℓ) (ρ : Dev nD → PrngReg)

theorem hu₀ : (ownU (u₀ (F := F)) : sProp 𝕄)
    ⊢ |={Set.univ}=> iprop(BI.own (EH (initOf (K (F := F)).hsCells (K (F := F)).hsToks)) ∗ (bigSep Finset.univ fun d : Dev nD => copiesGhost (F := F) d)
        ∗ bigSep Finset.univ fun thr : Thread nD τ => bigSep Finset.univ fun q : Fin 1 => (P m).x q thr) := by
  unfold u₀
  iintro Hu
  ihave H := (ownU_pair _ _) $$ Hu
  icases H with ⟨HH, Hr⟩
  ihave H' := (show (BI.own (embR (initOf (Pipeline.cells cfgs cellOf_inj) (Pipeline.launchToks cfgs cellOf_inj), (1 : Counters))) : sProp 𝕄)
    ⊢ iprop(BI.own (EP (initOf (Pipeline.cells cfgs cellOf_inj) (Pipeline.launchToks cfgs cellOf_inj)))
      ∗ BI.own (((Emb.inr : Emb Counters (UP × Counters)).trans embR) 1)) from by
        unfold EP; exact own_pair_emb (A := UP) (B := Counters) (embR : Emb (UP × Counters) 𝕄) _ _) $$ Hr
  icases H' with ⟨HP, -⟩
  imod (ghost_start (F := F)) $$ HP with HG
  imodintro
  isplitl [HH]; · iexact HH
  isplitl [HG]; · iexact HG
  unfold P; dsimp only
  have none (I : Type) (s : Finset I) : (bigSep s fun _ => iprop(emp)) = (iprop(emp) : sProp 𝕄) := bigSep_emp_const s
  rw [bigSep_congr fun _ _ => none _ _, none]
  iempintro

/-! ## The arrays -/

/-- A device's arrays held in a state. -/
abbrev holds (d : Dev nD) (W : State F) : sProp 𝕄 := held (SparseCore.T d) (Pipeline.ucRefs τ sig) W

/-- The two arrays the SparseCore works on. -/
abbrev lent : Finset (DevRef τ sig) := {(main_v1_1 : DevRef τ sig), (main_v2 : DevRef τ sig)}

omit [FloatOps F] in
/-- The arrays of a device are those two and the rest. -/
theorem holds_lent (d : Dev nD) (W : State F) :
    (holds d W : sProp 𝕄) = iprop(((indices'Loc d ↦{fullShare} W main_v1_1) ∗ truncLoc d ↦{fullShare} W main_v2)
      ∗ held (SparseCore.T d) (Pipeline.ucRefs τ sig \ lent) W) := by
  unfold holds
  rw [StableHlo.held_sub_split (SparseCore.T d) (show lent ⊆ Pipeline.ucRefs τ sig by decide)]
  congr 1
  unfold held
  rw [SparseCore.bigSep_insert' (by decide), bigSep_singleton]

omit [FloatOps F] in
/-- The rest does not see the SparseCore's answer. -/
theorem rest_callDone (d : Dev nD) (t : Table) (W : State F) :
    (held (SparseCore.T d) (Pipeline.ucRefs τ sig \ lent) (callDone t W) : sProp 𝕄) = held (SparseCore.T d) (Pipeline.ucRefs τ sig \ lent) W :=
  StableHlo.held_congr _ fun b hb => Function.update_of_ne
    (fun h => (Finset.mem_sdiff.1 hb).2 (Finset.mem_insert_of_mem (Finset.mem_singleton.2 h))) _ _

/-- What the call is handed, -/
theorem handed_all (d : Dev nD) : (bigSep Finset.univ fun c : Fin ((K (F := F)).nCore 0) => (P m).st 0 d c) = handed m d := by
  show (bigSep (Finset.univ : Finset (Fin 1)) fun _ => handed m d) = _
  rw [show (Finset.univ : Finset (Fin 1)) = {0} by decide, bigSep_singleton]

/-- and what it hands back. -/
theorem returned_all (d : Dev nD) : (bigSep Finset.univ fun c : Fin ((K (F := F)).nCore 0) => (P m).dn 0 d c) = returned m d := by
  show (bigSep (Finset.univ : Finset (Fin 1)) fun _ => returned m d) = _
  rw [show (Finset.univ : Finset (Fin 1)) = {0} by decide, bigSep_singleton]

/-! ## The steps of the program -/

/-- The TensorCore's standing before call `n` is what it owes together with the rest, which a copy leaves alone. -/
theorem tcSt_owing (d : Dev nD) (n : ℕ) :
    ((K (F := F)).tcSt EH d n : sProp 𝕄) ⊢ iprop(owing (F := F) n d ∗ (owing (F := F) n d -∗ (K (F := F)).tcSt EH d n)) := by
  unfold SparseCore.Cfg.tcSt
  iintro ⟨HO, Hrest⟩
  isplitl [HO]; · iexact HO
  iintro HO
  isplitl [HO]; · iexact HO
  iexact Hrest

/-- A copy by the TensorCore inside the program: any step `R` of copy `p`, from `W` to `W'`. -/
theorem wp_copy [∀ e, Nonempty (Elt F e)] (κ : GSem nD τ sig → ℕ) (d : Dev nD) (n : ℕ) (p : Fin 2) (W W' : Dev nD → State F)
    (R : Pipeline.RegionSeg (pcfgs (F := F)) adm (copies n (arraysOf W)) none (defs₀ (F := F)) 𝒱₀ (K (F := F)).L (K (F := F)).lev p)
    (hpre : R.pre d = iprop(unscopedBufs d (arraysOf W d) ∗ owing (F := F) n d))
    (hpost : R.post d = iprop(unscopedBufs d (arraysOf W' d) ∗ owing (F := F) n d)) (Q : PUnit → sProp 𝕄) :
    iprop((K (F := F)).ctx EH (P m) κ ∗ (K (F := F)).tcSt EH d n ∗ boundary (SparseCore.T d) ∗ holds d (W d) ∗ copyGhost p d
        ∗ (((K (F := F)).tcSt EH d n ∗ boundary (SparseCore.T d) ∗ holds d (W' d)) -∗ Q ⟨⟩))
      ⊢ wp frame (wpE ((K (F := F)).defs (D (F := F))) 𝒱 (SparseCore.T d) none) Set.univ
          (Prog.lift (.customCall (SparseCore.inner (Pipeline.entry p)) ())) Q := by
  refine BI.Entails.trans ?_ ((K (F := F)).wp_liftProg (D (F := F)) 𝒱 (SparseCore.T d) Set.univ none
    (.op (.customCall (Pipeline.entry p) ()) .ret) Q)
  refine BI.Entails.trans ?_ (Pipeline.RegionSeg.wp (pcfgs (F := F)) adm (copies n (arraysOf W)) none cellOf_inj EP (defs₀ (F := F)) 𝒱₀
    (K (F := F)).L (K (F := F)).lev R d none (fun _ h => nomatch h) .ret Q)
  rw [hpre, hpost]
  unfold copyGhost
  show (_ : sProp 𝕄) ⊢ _
  iintro ⟨#Hctx, Hst, Hb, Hh, ⟨Hg, Ht⟩, HQ⟩
  ihave H := (tcSt_owing d n) $$ Hst
  icases H with ⟨HO, Hst⟩
  isplitl [HQ Hst]
  · iintro ⟨Hb, Hh, HO⟩
    rw [wp_ret]
    imodintro
    iapply HQ
    isplitl [Hst HO]
    · iapply Hst $$ HO
    isplitl [Hb]; · iexact Hb
    iapply (Entails.of_eq (Pipeline.unscopedBufs_held d (W' d))) $$ Hh
  isplitl [Hb]; · iexact Hb
  isplitl [Hh HO]
  · isplitl [Hh]
    · iapply (Entails.of_eq (Pipeline.unscopedBufs_held d (W d)).symm) $$ Hh
    · iexact HO
  isplitr; · iapply ((K (F := F)).ctx_levAts κ) $$ Hctx
  isplitl [Hg]; · iexact Hg
  iexact Ht

/-- What the program ends with on a device: its arrays in the last state. -/
abbrev FIN (d : Dev nD) : sProp 𝕄 := holds d (finished m d)

/-- The program on a device's TensorCore, from the start to the last state. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ copiesGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd copiesGhost
  rw [show (unscopedBufs d (fun b => m ((SparseCore.T d).loc b)) : sProp 𝕄) = holds d (start m d) from
    Pipeline.unscopedBufs_held d (start m d)]
  simp only [main, wp_bind, wp_pure]
  iintro ⟨#Hctx, Hst, ⟨Hb, Hh, Hts, -⟩, Hg0, Hg1⟩
  -- the head
  iapply (wp_copy m κ d 0 0 (start m) (fun c => headDone (start m c)) (headStep 0 (start m)) rfl rfl _)
  isplitr; · iexact Hctx
  isplitl [Hst]; · iexact Hst
  isplitl [Hb]; · iexact Hb
  isplitl [Hh]; · iexact Hh
  isplitl [Hg0]; · iexact Hg0
  iintro ⟨Hst, Hb, Hh⟩
  -- its copy, and the table's
  iapply (StableHlo.wp_hlo_within 𝒱 (SparseCore.T d) none Set.univ (op := copyHead) (S := Pipeline.ucRefs τ sig)
    (Pipeline.sub_ucRefs _ (StableHlo.unary_bufs_sub ..)) (V := headDone (start m d))) $$ [Hb Hh]
  · isplitl [Hb] <;> iassumption
  iintro ⟨Hb, Hh⟩
  rw [wp_ret]; imodintro
  iapply (StableHlo.wp_hlo_within 𝒱 (SparseCore.T d) none Set.univ (op := copyTable) (S := Pipeline.ucRefs τ sig)
    (Pipeline.sub_ucRefs _ (StableHlo.unary_bufs_sub ..)) (V := copyHead.result (headDone (start m d)))) $$ [Hb Hh]
  · isplitl [Hb] <;> iassumption
  iintro ⟨Hb, Hh⟩
  rw [wp_ret]; imodintro
  -- the SparseCore's call
  ihave Hs := (show (holds d (copyTable.result (copyHead.result (headDone (start m d)))) : sProp 𝕄) ⊢ _ from
    Entails.of_eq (holds_lent d (called m d))) $$ Hh
  icases Hs with ⟨⟨Hx, Hy⟩, Hrest⟩
  iapply ((K (F := F)).wp_run (D (F := F)) 𝒱 (EH := EH) (P := P m) κ d 0) $$ [Hst Hx Hy Hb Hrest Hts Hg1]
  isplitr; · iexact Hctx
  isplitl [Hst]; · iexact Hst
  isplitl [Hx Hy]
  · rw [handed_all, called_table]
    unfold handed
    isplitl [Hx]; · iexact Hx
    iexists (called m d main_v2); iexact Hy
  iintro ⟨Hst, Hdn⟩
  ihave Hdn' := (Entails.of_eq (returned_all m d)) $$ Hdn
  unfold returned
  icases Hdn' with ⟨Hx, Hy⟩
  ihave Hh := (Entails.of_eq (holds_lent d (callDone (table m d) (called m d))).symm) $$ [Hx Hy Hrest]
  · rw [callDone_self, callDone_ne _ _ (by decide), called_table, rest_callDone]
    isplitl [Hx Hy]
    · isplitl [Hx] <;> iassumption
    · iexact Hrest
  -- the head once more
  iapply (StableHlo.wp_hlo_within 𝒱 (SparseCore.T d) none Set.univ (op := copyHead') (S := Pipeline.ucRefs τ sig)
    (Pipeline.sub_ucRefs _ (StableHlo.unary_bufs_sub ..)) (V := callDone (table m d) (called m d))) $$ [Hb Hh]
  · isplitl [Hb] <;> iassumption
  iintro ⟨Hb, Hh⟩
  rw [wp_ret]; imodintro
  -- the tail
  iapply (wp_copy m κ d 1 1 (answered m) (finished m) (tailStep 1 (answered m)) rfl rfl _)
  isplitr; · iexact Hctx
  isplitl [Hst]; · iexact Hst
  isplitl [Hb]; · iexact Hb
  isplitl [Hh]; · iexact Hh
  isplitl [Hg1]; · iexact Hg1
  iintro ⟨Hst, Hb, Hh⟩
  imodintro
  isplitl [Hst]; · iexact Hst
  isplitl [Hh]; · iexact Hh
  isplitl [Hb] <;> iassumption

/-! ## The run -/

/-- What is read off the last state of a device: all its arrays. -/
def fq (d : Dev nD) (s' : Phys nD τ sig (Elt F)) : Prop :=
  ∀ b ∈ Pipeline.ucRefs τ sig, s'.mem.mem (d, b) = finished m d b

theorem hfin (d : Dev nD) (s' : Phys nD τ sig (Elt F)) : iprop(FIN m d ∗ SI s') ⊢ (⌜fq m d s'⌝ : sProp 𝕄) := by
  unfold FIN holds held
  iintro H
  ihave Hr := (pointsTo_read_all (Pipeline.ucRefs τ sig) (fun b => ((d, b) : Loc nD τ sig)) (fun b => finished m d b) s') $$ H
  icases Hr with ⟨%h, -⟩
  ipureintro; exact h

/-- Every device ends with the array of values as its first result and the shortened table as its second, with both
    arguments as they were, and with every semaphore back at zero. -/
def QC : PUnit × MemSt nD τ sig (Elt F) → Prop := fun r =>
  (∀ c : Dev nD, r.2.mem (outValuesLoc c) = m (valuesLoc c) ∧ r.2.mem (outIndicesLoc c) = trunc (table m c)
    ∧ r.2.mem (valuesLoc c) = m (valuesLoc c) ∧ r.2.mem (indicesLoc c) = m (indicesLoc c)) ∧ r.2.sem = fun _ => 0

/-- The run of the whole program, at any floating-point values. -/
theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main copiesGhost (FIN m) (u₀ (F := F)) (sep_elim_left.trans (hu₀ m)) (hmain m ρ) (fq m) (hfin m) (QC m)
    fun _ h hz => ⟨fun c => ⟨(h c main_v3_0 (by decide)).trans (finished_copy m c), (h c main_v3_1 (by decide)).trans (finished_indices m c),
      (h c main_arg0 (by decide)).trans (finished_values m c), (h c main_arg1 (by decide)).trans (finished_table m c)⟩, hz⟩

end Run

end Cert.Proof

end
-- ==== Proof.Reference.lean ====
/-
  What the reference computes from the table: the first column as it is, the second the smaller of the first plus 2048
  and the second.
-/
module

public import proofs.«01_k».proof.Proof.Values
public import Idealize.ShloMosaic.Lib.Pipeline.Value
public import proofs.«01_k».proof.Proof.Gen.ReferenceIdeal
public import Idealize.ShloMosaic.Lib.IdealHost

@[expose] public section

noncomputable section

namespace Cert.Proof

open Idealize.ShloMosaic
open Cert.ReferenceIdeal Cert.ReferenceIdeal.Gen

/-- The place in a column that row `i 0` of the table has. -/
def rowOf (i : S16x2.Idx) : S16.Idx := fun | 0 => i 0

/-- The same in a table of one column. -/
def cellOf (i : S16x2.Idx) : S16x1.Idx := fun
  | 0 => i 0
  | 1 => (0 : Fin 1)

/-- Column `k` of a table, as a vector. -/
abbrev column (k : ℕ) (h : S16x2.Slices ![0, k] S16x1) (f : Table) : S16.Idx → BitVec 32 :=
  shapeCast S16 (extractStridedSlice S16x1 ![0, k] f h) shapeCasts_S16x1_S16

/-- Entry `i 0` of column `k` is the table's, at a place `j` in that row and column. -/
theorem column_apply (k : ℕ) (h : S16x2.Slices ![0, k] S16x1) (f : Table) (i j : S16x2.Idx) (h0 : (j 0).val = (i 0).val)
    (h1 : (j 1).val = k) : column k h f (rowOf i) = f j := by
  unfold column
  rw [shapeCast_apply _ _ _ (cellOf i) (by rw [Shape.rowMajor_val_two, Shape.rowMajor_val_one]; simp [cellOf, rowOf])]
  refine extractStridedSlice_apply _ _ _ _ _ fun a => ?_
  match a with
  | 0 => simpa [cellOf] using h0
  | 1 => simpa [cellOf] using h1

/-- A vector set up as a table of one column reads back its entries. -/
theorem upright_apply (x : S16.Idx → BitVec 32) (i : S16x2.Idx) :
    broadcastInDim S16x1 ![0] bcast_S16_S16x1_0 x (cellOf i) = x (rowOf i) :=
  broadcastInDim_apply _ _ _ _ _ fun a => by
    match a with
    | 0 => rfl

/-- The reference's second result is the table shortened. -/
theorem reference_trunc (f : Table) :
    concatenate S16x2 1
      [⟨S16x1, broadcastInDim S16x1 ![0] bcast_S16_S16x1_0 (column 0 slices_S16x2_S16x1_0_0 f)⟩,
        ⟨S16x1, broadcastInDim S16x1 ![0] bcast_S16_S16x1_0
          (minsi (addi (column 0 slices_S16x2_S16x1_0_0 f) (broadcastInDim S16 ![] bcast_S_S16 (constantI S_ 32 2048#32)))
            (column 1 slices_S16x2_S16x1_0_1 f))⟩]
      concatenates_S16x1_S16x1_S16x2_d1 = trunc f := by
  funext i
  have hi : (i 1).val < 2 := (i 1).isLt
  by_cases h : (i 1).val = 1
  · rw [concatenate_pair_apply_right (t := S16x2) (s₁ := S16x1) (s₂ := S16x1) (1 : Fin 2) _ _ _ i rfl rfl (cellOf i)
      (fun b hb => by
        match b with
        | 0 => rfl
        | 1 => exact absurd rfl hb)
      (by simpa [cellOf] using h.symm), upright_apply]
    show Scalar.minsi (Scalar.addi (column 0 slices_S16x2_S16x1_0_0 f (rowOf i)) 2048#32) (column 1 slices_S16x2_S16x1_0_1 f (rowOf i)) = _
    rw [column_apply 0 _ f i (beginOf i) rfl rfl, column_apply 1 _ f i i rfl h, trunc, if_pos h]
    rfl
  · rw [concatenate_pair_apply_left (t := S16x2) (s₁ := S16x1) (s₂ := S16x1) (1 : Fin 2) _ _ _ i rfl (cellOf i) (fun b => by
        match b with
        | 0 => rfl
        | 1 => show 0 = (i 1).val; omega), upright_apply, column_apply 0 _ f i i rfl (by omega), trunc, if_neg h]

end Cert.Proof

end
-- ==== Proof.Same.lean ====
/-
  The program and its idealization have one text: their body tables are the same function.
-/
module

public import proofs.«01_k».proof.Defs
public import proofs.«01_k».proof.Proof.Gen.Kernel
public import proofs.«01_k».proof.Proof.Gen.KernelIdeal

@[expose] public section

noncomputable section

namespace Cert.Proof

open Idealize.ShloMosaic

variable {F : FTy → Type} [FloatOps F]

/-- The kernels' bodies are the same on every processor. -/
theorem bodies_same : Cert.Kernel.defs₀ (F := F) = Cert.KernelIdeal.defs₀ := by
  funext p ℓ a
  match p, ℓ, a with
  | .tc, 0, (_, _) => rfl
  | .tc, 1, _ => rfl
  | .tc, 2, (_, _) => rfl
  | .scScalar _, 0, _ => rfl
  | .scScalar _, 1, _ => rfl
  | .scScalar _, 2, _ => rfl
  | .scVector _ _, 0, _ => rfl
  | .scVector _ _, 1, _ => rfl
  | .scVector _ _, 2, _ => rfl

/-- So are the body tables of the two programs. -/
theorem defs_same : Cert.Kernel.defs (F := F) = Cert.KernelIdeal.defs :=
  show Cert.Kernel.sc.defs (Pipeline.defs Cert.Kernel.pcfgs Cert.Kernel.defs₀)
    = Cert.Kernel.sc.defs (Pipeline.defs Cert.Kernel.pcfgs Cert.KernelIdeal.defs₀) from
  congrArg (fun D => Cert.Kernel.sc.defs (Pipeline.defs Cert.Kernel.pcfgs D)) bodies_same

end Cert.Proof

end
-- ==== Proof.lean ====
/-
  The certificate: the kernel and its reference run, and they end with the same two results.

  The kernel's run is in `Proof/Main.lean` (over any floating-point values), what the reference computes in
  `Proof/Reference.lean`.
-/
module

public import proofs.«01_k».proof.Defs
public import proofs.«01_k».proof.Proof.Main
public import proofs.«01_k».proof.Proof.Reference
public import proofs.«01_k».proof.Proof.Same
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.ReferenceIdeal.Run
public import proofs.«01_k».proof.Proof.Gen.Reference.Run

@[expose] public section

noncomputable section

namespace Cert.Proof

open Idealize.ShloMosaic Idealize.SL.Sem

/-- The run of `Proof/Main.lean` is the kernel's own. -/
theorem run_kernel (m : (ℓ : Loc Cert.Kernel.nD Cert.Kernel.τ Cert.Kernel.sig) → Buf (Elt Bits) ℓ) (ρ : Dev Cert.Kernel.nD → PrngReg) :
    θ_run (Cert.Kernel.defs (F := Bits)) (Cert.Kernel.threads (F := Bits)) ⟨m, fun _ => 0, ρ⟩ (QC (F := Bits) m) := by
  rw [defs_same]
  exact run_main (F := Bits) m ρ

/-- The kernel runs and leaves its arguments and counters as they were. -/
theorem frame_kernel : Cert.quiescent_Kernel := fun m ρ _ =>
  (θ_run Cert.Kernel.defs _ _).mono (fun _ h => ⟨fun c => (h.1 c).2.2, h.2⟩) (run_kernel m ρ)

/-- So does the kernel over the extended reals. -/
theorem frame_kernelIdeal : Cert.quiescent_KernelIdeal := fun m ρ _ =>
  (θ_run Cert.KernelIdeal.defs _ _).mono (fun _ h => ⟨fun c => (h.1 c).2.2, h.2⟩) (run_main (F := Ideal) m ρ)

/-- The reference runs and leaves its arguments as they were; it has no counters. -/
theorem frame_reference : Cert.quiescent_Reference := fun m ρ _ =>
  (θ_run Cert.Reference.defs _ _).mono (fun r h => ⟨fun c => (h c).2.2, sem_eq_zero_of_no_sems (by decide) r.2⟩)
    (Cert.Reference.Value.run (F := Bits) m ρ)

/-- So does the reference over the extended reals. -/
theorem frame_referenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Over the extended reals the kernel and the reference end with the same results: the values as they were given, and
    the table shortened. -/
theorem algebraic : Cert.algebraic_KernelIdeal_ReferenceIdeal := fun m ρ m' ρ' _ hm =>
  ⟨fun c => m (valuesLoc c), fun c => trunc (table m c),
    (θ_run Cert.KernelIdeal.defs _ _).mono (fun _ h => h.1) (run_main (F := Ideal) m ρ),
    (θ_run Cert.ReferenceIdeal.defs _ _).mono
      (fun _ h c => ⟨(h c).1.trans (hm c).1,
        (h c).2.1.trans ((reference_trunc _).trans (congrArg trunc (hm c).2)), (h c).2.2⟩)
      (Cert.ReferenceIdeal.Value.run (F := Ideal) m' ρ')⟩

/-- The same bit for bit. -/
theorem bitexact : Cert.bitexact_Kernel_Reference := fun m ρ m' ρ' _ hm =>
  ⟨fun c => m (valuesLoc c), fun c => trunc (table m c),
    (θ_run Cert.Kernel.defs _ _).mono (fun _ h => h.1) (run_kernel m ρ),
    (θ_run Cert.Reference.defs _ _).mono
      (fun _ h c => ⟨(h c).1.trans (hm c).1,
        (h c).2.1.trans ((reference_trunc _).trans (congrArg trunc (hm c).2)), (h c).2.2⟩)
      (Cert.Reference.Value.run (F := Bits) m' ρ')⟩

/-- The certificate. -/
theorem claim : Cert.Claim := ⟨Cert.Kernel.Gen.facts, Cert.KernelIdeal.Gen.facts, Cert.ReferenceIdeal.Gen.facts, Cert.Reference.Gen.facts,
  frame_kernel, frame_kernelIdeal, frame_referenceIdeal, frame_reference, trivial, algebraic, bitexact⟩

end Cert.Proof

end
